-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative_scales [hPre_nonnegative_scales : Cert.Pre_nonnegative_scales.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative_scales [hPre_nonnegative_scales : Cert.Pre_nonnegative_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonnegative_scales [hKernelIdeal : Cert.KernelIdeal.Facts] [hPre_nonnegative_scales : Cert.Pre_nonnegative_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonnegative_scales [hReferenceIdeal : Cert.ReferenceIdeal.Facts] [hPre_nonnegative_scales : Cert.Pre_nonnegative_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_nonnegative_scales [hKernelIdeal : Cert.KernelIdeal.Facts] [hReferenceIdeal : Cert.ReferenceIdeal.Facts] [hPre_nonnegative_scales : Cert.Pre_nonnegative_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nonnegative_scales : Cert.Pre_nonnegative_scales.Facts),
    quiescent_Kernel (hKernel := hKernel)
    ∧ quiescent_KernelIdeal (hKernelIdeal := hKernelIdeal)
    ∧ quiescent_KernelIdeal_pre_nonnegative_scales (hKernelIdeal := hKernelIdeal) (hPre_nonnegative_scales := hPre_nonnegative_scales)
    ∧ quiescent_ReferenceIdeal (hReferenceIdeal := hReferenceIdeal)
    ∧ quiescent_ReferenceIdeal_pre_nonnegative_scales (hReferenceIdeal := hReferenceIdeal) (hPre_nonnegative_scales := hPre_nonnegative_scales)
    ∧ preserves_Kernel_KernelIdeal
    ∧ algebraic_KernelIdeal_ReferenceIdeal_pre_nonnegative_scales (hKernelIdeal := hKernelIdeal) (hReferenceIdeal := hReferenceIdeal) (hPre_nonnegative_scales := hPre_nonnegative_scales)
-- ==== Pre_nonnegative_scales.lean ====
abbrev S20x256x64 : Shape := ⟨3, ![20, 256, 64]⟩
abbrev S20 : Shape := ⟨1, ![20]⟩
abbrev S256x8x8x128 : Shape := ⟨4, ![256, 8, 8, 128]⟩
abbrev S_ : Shape := ⟨0, ![]⟩

class Facts : Prop where
  bcast_S_S20 : S_.BroadcastsInDim S20 (![] : Fin 0 → Fin S20.rank)

variable [Facts]

def fn {F : FTy → Type} [FloatOps F] (main_arg0 : FVec F S20x256x64 .fp8e4m3) (main_arg1 : FVec F S20 .f32) (main_arg2 : IVec S256x8x8x128 32) : IVec S20 1 :=
  let main_cst : FVec F S_ .f32 := constant S_ .f32 0x00000000#32
  let main_v0 : FVec F S20 .f32 := broadcastInDim S20 ![] bcast_S_S20 main_cst
  let main_v1 : IVec S20 1 := cmpf .oge main_arg1 main_v0
  let main_cst_0 : FVec F S_ .f32 := constant S_ .f32 0x7F800000#32
  let main_v2 : FVec F S20 .f32 := broadcastInDim S20 ![] bcast_S_S20 main_cst_0
  let main_v3 : IVec S20 1 := cmpf .olt main_arg1 main_v2
  let main_v4 : IVec S20 1 := andi main_v1 main_v3
  main_v4
-- ==== Kernel.lean ====
abbrev S20x256x64 : Shape := ⟨3, ![20, 256, 64]⟩
abbrev S20 : Shape := ⟨1, ![20]⟩
abbrev S256x8x8x128 : Shape := ⟨4, ![256, 8, 8, 128]⟩
abbrev S20x64x256 : Shape := ⟨3, ![20, 64, 256]⟩
abbrev S32768x1280 : Shape := ⟨2, ![32768, 1280]⟩
abbrev S2x8x8x128 : Shape := ⟨4, ![2, 8, 8, 128]⟩
abbrev S256x1280 : Shape := ⟨2, ![256, 1280]⟩
abbrev S32x128 : Shape := ⟨2, ![32, 128]⟩
abbrev S1x1x8x128 : Shape := ⟨4, ![1, 1, 8, 128]⟩
abbrev S8x128 : Shape := ⟨2, ![8, 128]⟩
abbrev S1x128 : Shape := ⟨2, ![1, 128]⟩
abbrev S32x1x128 : Shape := ⟨3, ![32, 1, 128]⟩
abbrev S32x8x128 : Shape := ⟨3, ![32, 8, 128]⟩
abbrev S256x128 : Shape := ⟨2, ![256, 128]⟩
abbrev S256x256 : Shape := ⟨2, ![256, 256]⟩
abbrev S1x64x256 : Shape := ⟨3, ![1, 64, 256]⟩
abbrev S64x256 : Shape := ⟨2, ![64, 256]⟩
abbrev S1 : Shape := ⟨1, ![1]⟩
abbrev S256x64 : Shape := ⟨2, ![256, 64]⟩

abbrev nBuf : Space → Nat
  | .hbm => 5
  | .vmem => 5
  | .smem => 1
  | _ => 0

abbrev bufTy : (tb : Table) → Fin (tcTables nBuf tb) → BufTy
  | .hbm, ⟨0, _⟩ => ⟨S20x256x64, .fp8e4m3⟩
  | .hbm, ⟨1, _⟩ => ⟨S20, .f32⟩
  | .hbm, ⟨2, _⟩ => ⟨S256x8x8x128, .i32⟩
  | .hbm, ⟨3, _⟩ => ⟨S20x64x256, .fp8e4m3⟩
  | .hbm, ⟨4, _⟩ => ⟨S32768x1280, .bf16⟩
  | .local _ .vmem, ⟨0, _⟩ => ⟨S2x8x8x128, .i32⟩
  | .local _ .vmem, ⟨1, _⟩ => ⟨S2x8x8x128, .i32⟩
  | .local _ .vmem, ⟨2, _⟩ => ⟨S20x64x256, .fp8e4m3⟩
  | .local _ .vmem, ⟨3, _⟩ => ⟨S256x1280, .bf16⟩
  | .local _ .vmem, ⟨4, _⟩ => ⟨S256x1280, .bf16⟩
  | .local _ .smem, ⟨0, _⟩ => ⟨S20, .f32⟩
  | _, _ => ⟨S20x256x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S20 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x8x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x64x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S20x256x64 : Shape := ⟨3, ![20, 256, 64]⟩
abbrev S20 : Shape := ⟨1, ![20]⟩
abbrev S256x8x8x128 : Shape := ⟨4, ![256, 8, 8, 128]⟩
abbrev S256x5x7x128 : Shape := ⟨4, ![256, 5, 7, 128]⟩
abbrev S256x128x7x5 : Shape := ⟨4, ![256, 128, 7, 5]⟩
abbrev S32768x7x5 : Shape := ⟨3, ![32768, 7, 5]⟩
abbrev S256x1x7x128 : Shape := ⟨4, ![256, 1, 7, 128]⟩
abbrev S256x7x128 : Shape := ⟨3, ![256, 7, 128]⟩
abbrev S256x128x7 : Shape := ⟨3, ![256, 128, 7]⟩
abbrev S32768x7 : Shape := ⟨2, ![32768, 7]⟩
abbrev S4 : Shape := ⟨1, ![4]⟩
abbrev S_ : Shape := ⟨0, ![]⟩
abbrev S32768x7x5x1 : Shape := ⟨4, ![32768, 7, 5, 1]⟩
abbrev S1x1x1x4 : Shape := ⟨4, ![1, 1, 1, 4]⟩
abbrev S32768x7x5x4 : Shape := ⟨4, ![32768, 7, 5, 4]⟩
abbrev S32768x7x20 : Shape := ⟨3, ![32768, 7, 20]⟩
abbrev S1x1x20 : Shape := ⟨3, ![1, 1, 20]⟩
abbrev S32768x7x20x1 : Shape := ⟨4, ![32768, 7, 20, 1]⟩
abbrev S32768x7x20x2 : Shape := ⟨4, ![32768, 7, 20, 2]⟩
abbrev S32768x7x20x64 : Shape := ⟨4, ![32768, 7, 20, 64]⟩
abbrev S32768x1280 : Shape := ⟨2, ![32768, 1280]⟩
abbrev S1x1x20x1 : Shape := ⟨4, ![1, 1, 20, 1]⟩
abbrev S32768x7x1x1 : Shape := ⟨4, ![32768, 7, 1, 1]⟩
abbrev S32768x20x64 : Shape := ⟨3, ![32768, 20, 64]⟩

abbrev nBuf : Space → Nat
  | .hbm => 45
  | .vmem => 4
  | .smem => 0
  | _ => 0

abbrev bufTy : (tb : Table) → Fin (tcTables nBuf tb) → BufTy
  | .hbm, ⟨0, _⟩ => ⟨S20x256x64, .fp8e4m3⟩
  | .hbm, ⟨1, _⟩ => ⟨S20, .f32⟩
  | .hbm, ⟨2, _⟩ => ⟨S256x8x8x128, .i32⟩
  | .hbm, ⟨3, _⟩ => ⟨S256x5x7x128, .i32⟩
  | .hbm, ⟨4, _⟩ => ⟨S256x128x7x5, .i32⟩
  | .hbm, ⟨5, _⟩ => ⟨S32768x7x5, .i32⟩
  | .hbm, ⟨6, _⟩ => ⟨S256x1x7x128, .i32⟩
  | .hbm, ⟨7, _⟩ => ⟨S256x7x128, .i32⟩
  | .hbm, ⟨8, _⟩ => ⟨S256x128x7, .i32⟩
  | .hbm, ⟨9, _⟩ => ⟨S32768x7, .i32⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S32768x7x5x1, .i32⟩
  | .hbm, ⟨15, _⟩ => ⟨S1x1x1x4, .i32⟩
  | .hbm, ⟨16, _⟩ => ⟨S32768x7x5x4, .i32⟩
  | .hbm, ⟨17, _⟩ => ⟨S32768x7x5x4, .i32⟩
  | .hbm, ⟨18, _⟩ => ⟨S32768x7x5x4, .i32⟩
  | .hbm, ⟨19, _⟩ => ⟨S_, .i32⟩
  | .hbm, ⟨20, _⟩ => ⟨S32768x7x5x4, .i32⟩
  | .hbm, ⟨21, _⟩ => ⟨S32768x7x5x4, .i32⟩
  | .hbm, ⟨22, _⟩ => ⟨S32768x7x20, .i32⟩
  | .hbm, ⟨23, _⟩ => ⟨S20, .i32⟩
  | .hbm, ⟨24, _⟩ => ⟨S1x1x20, .i32⟩
  | .hbm, ⟨25, _⟩ => ⟨S_, .i32⟩
  | .hbm, ⟨26, _⟩ => ⟨S1x1x20, .i32⟩
  | .hbm, ⟨27, _⟩ => ⟨S1x1x20, .i1⟩
  | .hbm, ⟨28, _⟩ => ⟨S_, .i32⟩
  | .hbm, ⟨29, _⟩ => ⟨S1x1x20, .i32⟩
  | .hbm, ⟨30, _⟩ => ⟨S1x1x20, .i32⟩
  | .hbm, ⟨31, _⟩ => ⟨S1x1x20, .i32⟩
  | .hbm, ⟨32, _⟩ => ⟨S_, .i32⟩
  | .hbm, ⟨33, _⟩ => ⟨S32768x7x20, .i32⟩
  | .hbm, ⟨34, _⟩ => ⟨S32768x7x20, .i1⟩
  | .hbm, ⟨35, _⟩ => ⟨S_, .i32⟩
  | .hbm, ⟨36, _⟩ => ⟨S32768x7x20, .i32⟩
  | .hbm, ⟨37, _⟩ => ⟨S32768x7x20, .i32⟩
  | .hbm, ⟨38, _⟩ => ⟨S32768x7x20, .i32⟩
  | .hbm, ⟨39, _⟩ => ⟨S32768x7x20, .i32⟩
  | .hbm, ⟨40, _⟩ => ⟨S32768x7x20x1, .i32⟩
  | .hbm, ⟨41, _⟩ => ⟨S32768x7x20x1, .i32⟩
  | .hbm, ⟨42, _⟩ => ⟨S32768x7x20x2, .i32⟩
  | .hbm, ⟨43, _⟩ => ⟨S32768x7x20x64, .fp8e4m3⟩
  | .hbm, ⟨44, _⟩ => ⟨S32768x1280, .bf16⟩
  | .local _ .vmem, ⟨0, _⟩ => ⟨S32768x7x20x64, .fp8e4m3⟩
  | .local _ .vmem, ⟨1, _⟩ => ⟨S20, .f32⟩
  | .local _ .vmem, ⟨2, _⟩ => ⟨S32768x7, .i32⟩
  | .local _ .vmem, ⟨3, _⟩ => ⟨S32768x1280, .bf16⟩
  | _, _ => ⟨S20x256x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_1 : Ref sig .tc := ⟨.hbm, 25, rfl⟩
abbrev main_v20 : Ref sig .tc := ⟨.hbm, 26, rfl⟩
abbrev main_v21 : Ref sig .tc := ⟨.hbm, 27, rfl⟩
abbrev main_c_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_3 : Ref sig .tc := ⟨.hbm, 32, rfl⟩
abbrev main_v25 : Ref sig .tc := ⟨.hbm, 33, rfl⟩
abbrev main_v26 : Ref sig .tc := ⟨.hbm, 34, rfl⟩
abbrev main_c_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32768x7x20x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32768x7 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32768x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.lean ====
/- What one grid point of the kernel computes, in one vocabulary: the packed counters of a block of bags, the counts read
   out of them, the tile of 64 result columns made from the counts, and the statement that the block which a grid point
   leaves is 20 such tiles side by side. -/
module
public import proofs.«01_k».proof.Proof.Gen.KernelIdeal.Value
public import Mathlib.Tactic.IntervalCases
public import Mathlib.Tactic.FinCases
@[expose] public section
set_option maxRecDepth 16384
noncomputable section
namespace Cert.KernelIdeal.Tile
open Idealize.ShloMosaic Idealize.ShloMosaic.TcCoe Idealize.ShloMosaic.Tactic Cert.KernelIdeal Cert.KernelIdeal.Gen

/-- The row of slot `k` inside the eight slot rows is in bounds. -/
theorem slices_row (k : Nat) (hk : k < 8) : S8x128.Slices ![k, 0] S1x128 := by
  interval_cases k <;> decide

section words

/-- Which slots of the block's 128 bags hold an id. -/
def held (v : IVec S1x1x8x128 32) : IVec S8x128 1 :=
  cmpi .ne (shapeCast S8x128 v shapeCasts_S1x1x8x128_S8x128) (broadcast S8x128 0#32)

/-- The eight bits of each code word that start at bit `sh`. -/
def code (w : IVec S1x1x8x128 32) (sh : BitVec 32) : IVec S8x128 32 :=
  andi (shrsi (shapeCast S8x128 w shapeCasts_S1x1x8x128_S8x128) (broadcast S8x128 sh)) (broadcast S8x128 255#32)

/-- The number of the packed word that counts a slot's code: its upper five bits, or all ones where the slot is empty. -/
def wordNo (v w : IVec S1x1x8x128 32) (sh : BitVec 32) : IVec S8x128 32 :=
  select (held v) (shrsi (code w sh) (broadcast S8x128 3#32)) (broadcast S8x128 4294967295#32)

/-- A one in the four-bit field that the code's lower three bits name. -/
def one (w : IVec S1x1x8x128 32) (sh : BitVec 32) : IVec S8x128 32 :=
  shli (broadcast S8x128 1#32) (shli (andi (code w sh) (broadcast S8x128 7#32)) (broadcast S8x128 2#32))

/-- What slot `k` adds to the 32 packed words of each bag. -/
def hit (k : Nat) (hk : k < 8) (hi lo : IVec S8x128 32) : IVec S32x128 32 :=
  select
    (cmpi .eq (iota .tc S32x128 32 [0] iota_S32x128_d0_w32)
      (broadcastTo S32x128 (extractStridedSlice S1x128 ![k, 0] hi (slices_row k hk)) broadcasts_S1x128_S32x128))
    (broadcastTo S32x128 (shapeCast S1x128 (extractStridedSlice S1x128 ![k, 0] lo (slices_row k hk)) shapeCasts_S1x128_S1x128)
      broadcasts_S1x128_S32x128)
    (broadcast S32x128 0#32)

/-- The packed counters of the seven slots. -/
def packed (hi lo : IVec S8x128 32) : IVec S32x128 32 :=
  addi (addi (addi (addi (addi (addi (addi (broadcast S32x128 0#32)
    (hit 0 (by decide) hi lo)) (hit 1 (by decide) hi lo)) (hit 2 (by decide) hi lo)) (hit 3 (by decide) hi lo))
    (hit 4 (by decide) hi lo)) (hit 5 (by decide) hi lo)) (hit 6 (by decide) hi lo)

/-- The four-bit fields of the packed words, one per row, as eight-bit words. -/
def fields (p : IVec S32x128 32) : IVec S256x128 8 :=
  extsi 8 (trunci 4 (shrsi
    (shapeCast S256x128 (broadcastTo S32x8x128 (shapeCast S32x1x128 (shapeCast S32x1x128 p shapeCasts_S32x128_S32x1x128)
      shapeCasts_S32x1x128_S32x1x128) broadcasts_S32x1x128_S32x8x128) shapeCasts_S32x8x128_S256x128)
    (muli (broadcast S256x128 4#32) (andi (iota .tc S256x128 32 [0] iota_S256x128_d0_w32) (broadcast S256x128 7#32))))
    natLt_4_32) natLt_4_8

end words

variable {F : FTy → Type} [FloatOps F]

/-- The fields read as eight-bit floating-point numbers. -/
def counts (v w : IVec S1x1x8x128 32) (sh : BitVec 32) : FVec F S256x128 .fp8e4m3 :=
  bitcastToFloat .fp8e4m3 (fields (packed (wordNo v w sh) (one w sh)))

/-- One tile of the result: the codebook times the counts, times 512 times the scale, transposed. -/
def tileOf (n : FVec F S256x256 .fp8e4m3) (cb : FVec F S1x64x256 .fp8e4m3) (s : F .f32) : FVec F S256x64 .bf16 :=
  transpose S256x64 [1, 0]
    (truncf .bf16
      (mulf
        (matmul dot_S64x256_S256x256_S64x256_1_0_0_1_n_n none
          (extf .bf16 (shapeCast S64x256 cb shapeCasts_S1x64x256_S64x256) bitsLt_fp8e4m3_bf16) n
          (constant S64x256 .f32 0x00000000#32))
        (broadcast S64x256 (Scalar.mulf s (Scalar.ofBits .f32 0x44000000#32))))
      bitsLt_bf16_f32)
    transposes_S64x256_p1_0_S256x64

theorem inb_slots (b g : Nat) (hb : b < 2) (hg : g < 8) : ∀ a, (![b, g, 0, 0] : Fin 4 → Nat) a + S1x1x8x128.size a ≤ S2x8x8x128.size a := by
  intro a; fin_cases a <;> simp [S1x1x8x128, S2x8x8x128] <;> omega
theorem inb_cb (n : Nat) (hn : n < 20) : ∀ a, (![n, 0, 0] : Fin 3 → Nat) a + S1x64x256.size a ≤ S20x64x256.size a := by
  intro a; fin_cases a <;> simp [S1x64x256, S20x64x256] <;> omega
theorem inb_scale (n : Nat) (hn : n < 20) : ∀ a, (![n] : Fin 1 → Nat) a + S1.size a ≤ S20.size a := by
  intro a; fin_cases a; simp [S1, S20]; omega
theorem inb_out (n : Nat) (hn : n < 20) : ∀ a, (![0, 64 * n] : Fin 2 → Nat) a + S256x64.size a ≤ S256x1280.size a := by
  intro a; fin_cases a <;> simp [S256x64, S256x1280] <;> omega

/-- Row `g` of the slots of the `b`-th group of 128 bags. -/
def slotRow (x1 : Vec F S2x8x8x128 .i32) (b g : Nat) (hb : b < 2) (hg : g < 8) : IVec S1x1x8x128 32 :=
  View.ld x1 (Rect.unit (s := S2x8x8x128) ![b, g, 0, 0] S1x1x8x128.size (inb_slots b g hb hg))

/-- The counts of code position `n` over both groups of bags, side by side. -/
def counts2 (x1 : Vec F S2x8x8x128 .i32) (g : Nat) (hg : g < 5) (sh : BitVec 32) : FVec F S256x256 .fp8e4m3 :=
  concatenate S256x256 1
    [⟨S256x128, counts (slotRow x1 0 5 (by decide) (by decide)) (slotRow x1 0 g (by decide) (by omega)) sh⟩,
     ⟨S256x128, counts (slotRow x1 1 5 (by decide) (by decide)) (slotRow x1 1 g (by decide) (by omega)) sh⟩]
    concatenates_S256x128_S256x128_S256x256_d1

/-- Tile `n` of the block, from the block's scales, slots and codebooks. -/
def tile (x0 : Vec F S20 .f32) (x1 : Vec F S2x8x8x128 .i32) (x2 : Vec F S20x64x256 .fp8e4m3)
    (n : Nat) (hn : n < 20) (g : Nat) (hg : g < 5) (sh : BitVec 32) : FVec F S256x64 .bf16 :=
  tileOf (counts2 x1 g hg sh)
    (View.ld x2 (Rect.unit (s := S20x64x256) ![n, 0, 0] S1x64x256.size (inb_cb n hn)))
    (View.ld x0 (Rect.unit (s := S20) ![n] S1.size (inb_scale n hn)) (Shape.Idx.first (Nat.lt_of_lt_of_eq Nat.one_pos numel1_S1.symm)))

/-- Tile `n` with the place it is stored at. -/
def piece (x0 : Vec F S20 .f32) (x1 : Vec F S2x8x8x128 .i32) (x2 : Vec F S20x64x256 .fp8e4m3)
    (n : Nat) (hn : n < 20) (g : Nat) (hg : g < 5) (sh : BitVec 32) : View.Piece (Elt F) S256x1280 .bf16 :=
  ⟨Rect.unit (s := S256x1280) ![0, 64 * n] S256x64.size (inb_out n hn), tile x0 x1 x2 n hn g hg sh⟩

/-- The twenty tiles of a block, last first. -/
def pieces (x0 : Vec F S20 .f32) (x1 : Vec F S2x8x8x128 .i32) (x2 : Vec F S20x64x256 .fp8e4m3) : List (View.Piece (Elt F) S256x1280 .bf16) :=
  [piece x0 x1 x2 19 (by decide) 4 (by decide) 24#32, piece x0 x1 x2 18 (by decide) 4 (by decide) 16#32,
   piece x0 x1 x2 17 (by decide) 4 (by decide) 8#32, piece x0 x1 x2 16 (by decide) 4 (by decide) 0#32,
   piece x0 x1 x2 15 (by decide) 3 (by decide) 24#32, piece x0 x1 x2 14 (by decide) 3 (by decide) 16#32,
   piece x0 x1 x2 13 (by decide) 3 (by decide) 8#32, piece x0 x1 x2 12 (by decide) 3 (by decide) 0#32,
   piece x0 x1 x2 11 (by decide) 2 (by decide) 24#32, piece x0 x1 x2 10 (by decide) 2 (by decide) 16#32,
   piece x0 x1 x2 9 (by decide) 2 (by decide) 8#32, piece x0 x1 x2 8 (by decide) 2 (by decide) 0#32,
   piece x0 x1 x2 7 (by decide) 1 (by decide) 24#32, piece x0 x1 x2 6 (by decide) 1 (by decide) 16#32,
   piece x0 x1 x2 5 (by decide) 1 (by decide) 8#32, piece x0 x1 x2 4 (by decide) 1 (by decide) 0#32,
   piece x0 x1 x2 3 (by decide) 0 (by decide) 24#32, piece x0 x1 x2 2 (by decide) 0 (by decide) 16#32,
   piece x0 x1 x2 1 (by decide) 0 (by decide) 8#32, piece x0 x1 x2 0 (by decide) 0 (by decide) 0#32]

variable (m : (ℓ : Loc nD τ sig) → Buf (Elt F) ℓ)

set_option maxHeartbeats 4000000 in
/-- The block that grid point `t` leaves in the output's buffer is the twenty tiles of its scales, slots and codebooks. -/
theorem outsAt0_eq (c : Dev nD) (t : Fin cfg0.N) :
    outsAt0 m c t = View.canon (pieces (iblk m c 0 t) (iblk m c 1 t) (iblk m c 2 t)) := by
  unfold outsAt0 out0_A_3
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread]
  unfold pieces
  refine congrArg View.canon ?_
  iterate 20 (refine congrArg₂ List.cons ?_ ?_; · rfl)
  rfl

end Cert.KernelIdeal.Tile
end
-- ==== Proof.Words.lean ====
/- Counters packed four bits each into 32-bit words, on the words alone: what one slot adds, what seven slots leave, what a
   field reads as, and the floating-point number that a small count's bits denote. -/
module
public import Idealize.ShloMosaic.Lib.PackedFields
public import Idealize.ShloMosaic.PureOps.Ideal
@[expose] public section
noncomputable section
namespace Cert.Words
open Idealize.ShloMosaic Idealize.ShloMosaic.PackedFields

/-- The eight bits of a code word that start at bit `sh`. -/
def code (w sh : BitVec 32) : BitVec 32 := IntOp.andi (IntOp.shrsi .vector w sh) 255#32

theorem select_one {α : Type} (a b : α) : Scalar.select (1#1) a b = a := by unfold Scalar.select; rw [if_pos (by decide)]
theorem select_zero {α : Type} (a b : α) : Scalar.select (0#1) a b = b := by unfold Scalar.select; rw [if_neg (by decide)]
theorem cmpi_eq {w : Nat} (a b : BitVec w) : IntOp.cmpi .eq a b = if a = b then 1#1 else 0#1 := by
  unfold IntOp.cmpi
  by_cases h : a = b
  · subst h; simp
  · have : (a == b) = false := beq_eq_false_iff_ne.mpr h
    simp [h, this]
theorem cmpi_ne {w : Nat} (a b : BitVec w) : IntOp.cmpi .ne a b = if a = b then 0#1 else 1#1 := by
  unfold IntOp.cmpi
  by_cases h : a = b
  · subst h; simp
  · have : (a != b) = true := bne_iff_ne.mpr h
    simp [h, this]

/-- One if a slot with validity word `v` holds code `c`, else zero. -/
def ind (v x : BitVec 32) (c : Nat) : Nat := if v ≠ 0#32 ∧ x.toNat = c then 1 else 0

theorem ind_le (v x : BitVec 32) (c : Nat) : ind v x c ≤ 1 := by unfold ind; split <;> omega

/-- What a slot with validity word `v` and code `x` adds to packed word number `r`. -/
def hit (v x : BitVec 32) (r : Nat) : BitVec 32 :=
  Scalar.select (IntOp.cmpi .eq (BitVec.ofNat 32 r)
      (Scalar.select (IntOp.cmpi .ne v 0#32) (IntOp.shrsi .vector x 3#32) 4294967295#32))
    (IntOp.shli .vector 1#32 (IntOp.shli .vector (IntOp.andi x 7#32) 2#32)) 0#32

/-- Field `i` of what a slot adds to word `r` is one exactly when the slot holds code `8 r + i`. -/
theorem field_hit (v x : BitVec 32) (r i : Nat) (hr : r < 32) (hi : i < 8) :
    field 4 i (hit v x r).toNat = ind v x (8 * r + i) := by
  unfold hit ind
  by_cases hv : v = 0#32
  · subst hv
    rw [if_neg (by simp)]
    have h2 : BitVec.ofNat 32 r ≠ 4294967295#32 := by
      intro h
      have := congrArg BitVec.toNat h
      simp at this
      omega
    rw [cmpi_ne, if_pos rfl, select_zero, cmpi_eq, if_neg h2, select_zero]
    simp [field]
  · rw [cmpi_ne, if_neg hv, select_one, cmpi_eq]
    simp only [@eq_comm _ (BitVec.ofNat 32 r)]
    rw [← cmpi_eq]
    have := field_oneHot (u := .vector) x 3 2 r i (by decide) (by norm_num; omega) (by norm_num; omega)
    norm_num at this
    rw [this]
    simp [hv]

/-- Adding a slot's word to counters that are at most `n < 15` counts the slot. -/
theorem field_step (a b : BitVec 32) (A B : Nat → Nat) (n : Nat) (hn : n < 15)
    (ha : ∀ i < 8, field 4 i a.toNat = A i ∧ A i ≤ n) (hb : ∀ i < 8, field 4 i b.toNat = B i ∧ B i ≤ 1) :
    ∀ i < 8, field 4 i (IntOp.addi a b).toNat = A i + B i ∧ A i + B i ≤ n + 1 := fun i hi => by
  refine ⟨?_, by have := (ha i hi).2; have := (hb i hi).2; omega⟩
  rw [field_addi (w := 4) (n := 8) rfl a b (fun k hk => ?_) i hi, (ha i hi).1, (hb i hi).1]
  rw [(ha k hk).1, (hb k hk).1]
  have := (ha k hk).2; have := (hb k hk).2; norm_num; omega

/-- The number of the seven slots that hold code `c`. -/
def count (v x : Fin 7 → BitVec 32) (c : Nat) : Nat := ∑ k, ind (v k) (x k) c

theorem count_le (v x : Fin 7 → BitVec 32) (c : Nat) : count v x c ≤ 7 := by
  unfold count
  exact (Finset.sum_le_sum fun k _ => ind_le (v k) (x k) c).trans (by simp)

/-- The packed word number `r` after the seven slots. -/
def packed (v x : Fin 7 → BitVec 32) (r : Nat) : BitVec 32 :=
  IntOp.addi (IntOp.addi (IntOp.addi (IntOp.addi (IntOp.addi (IntOp.addi (IntOp.addi 0#32
    (hit (v 0) (x 0) r)) (hit (v 1) (x 1) r)) (hit (v 2) (x 2) r)) (hit (v 3) (x 3) r)) (hit (v 4) (x 4) r))
    (hit (v 5) (x 5) r)) (hit (v 6) (x 6) r)

/-- Field `i` of packed word `r` is the number of slots that hold code `8 r + i`. -/
theorem field_packed (v x : Fin 7 → BitVec 32) (r i : Nat) (hr : r < 32) (hi : i < 8) :
    field 4 i (packed v x r).toNat = count v x (8 * r + i) := by
  have hh : ∀ k : Fin 7, ∀ i < 8, field 4 i (hit (v k) (x k) r).toNat = ind (v k) (x k) (8 * r + i)
      ∧ ind (v k) (x k) (8 * r + i) ≤ 1 := fun k i hi => ⟨field_hit (v k) (x k) r i hr hi, ind_le _ _ _⟩
  have h0 : ∀ i < 8, field 4 i (0#32 : BitVec 32).toNat = (fun _ => 0) i ∧ (fun _ => 0) i ≤ 0 := fun i _ => by
    simp [field]
  have h1 := field_step _ _ _ _ 0 (by decide) h0 (hh 0)
  have h2 := field_step _ _ _ _ 1 (by decide) h1 (hh 1)
  have h3 := field_step _ _ _ _ 2 (by decide) h2 (hh 2)
  have h4 := field_step _ _ _ _ 3 (by decide) h3 (hh 3)
  have h5 := field_step _ _ _ _ 4 (by decide) h4 (hh 4)
  have h6 := field_step _ _ _ _ 5 (by decide) h5 (hh 5)
  have h7 := field_step _ _ _ _ 6 (by decide) h6 (hh 6)
  unfold packed count
  rw [(h7 i hi).1, Fin.sum_univ_seven]
  simp

/-- Row `c`'s nibble of packed word `p`, sign-extended to eight bits. -/
def nibble (p : BitVec 32) (c : Nat) : BitVec 8 :=
  ((IntOp.shrsi .vector p (IntOp.muli 4#32 (IntOp.andi (BitVec.ofNat 32 c) 7#32))).setWidth 4).signExtend 8

/-- A nibble below eight reads as itself. -/
theorem nibble_eq (p : BitVec 32) (c : Nat) (hc : c < 256) (h : field 4 (c % 8) p.toNat ≤ 7) :
    nibble p c = BitVec.ofNat 8 (field 4 (c % 8) p.toNat) := by
  have hj : c % 8 < 8 := Nat.mod_lt _ (by decide)
  have hand : (IntOp.andi (BitVec.ofNat 32 c) 7#32).toNat = c % 8 := by
    unfold IntOp.andi
    rw [BitVec.toNat_and, BitVec.toNat_ofNat, BitVec.toNat_ofNat, Nat.mod_eq_of_lt (by omega : c < 2 ^ 32)]
    exact Nat.and_two_pow_sub_one_eq_mod c 3
  have hmul : (IntOp.muli 4#32 (IntOp.andi (BitVec.ofNat 32 c) 7#32)).toNat = 4 * (c % 8) := by
    unfold IntOp.muli
    rw [BitVec.toNat_mul, hand]
    show 4 * (c % 8) % 2 ^ 32 = _
    exact Nat.mod_eq_of_lt (by omega)
  have hlow : ((IntOp.shrsi .vector p (IntOp.muli 4#32 (IntOp.andi (BitVec.ofNat 32 c) 7#32))).setWidth 4).toNat
      = field 4 (c % 8) p.toNat := by
    unfold IntOp.shrsi
    rw [if_pos (by rw [hmul]; omega), BitVec.sshiftRight', hmul]
    apply Nat.eq_of_testBit_eq
    intro b
    rw [testBit_field, ← BitVec.getLsbD, BitVec.getLsbD_setWidth, BitVec.getLsbD_sshiftRight]
    by_cases hb : b < 4
    · have : 4 * (c % 8) + b < 32 := by omega
      simp [hb, this, BitVec.getLsbD]
      intro; omega
    · simp [hb]
  unfold nibble
  generalize (IntOp.shrsi .vector p (IntOp.muli 4#32 (IntOp.andi (BitVec.ofNat 32 c) 7#32))).setWidth 4 = q at hlow
  rw [← hlow] at h ⊢
  have hm : q.msb = false := by rw [BitVec.msb_eq_decide]; simp; omega
  rw [BitVec.signExtend_eq_setWidth_of_msb_false hm]
  exact BitVec.eq_of_toNat_eq (by simp)

/-- The eight-bit pattern of a count below eight denotes the count times `2^-9`. -/
theorem e4m3fn_count (n : Nat) (hn : n ≤ 7) : Ideal.ofBits .fp8e4m3 (BitVec.ofNat 8 n) = (((n : ℝ) * (2 : ℝ) ^ (-9 : Int) : ℝ) : EReal) := by
  have h : n < 8 := by omega
  show Ideal.e4m3fn _ = _
  unfold Ideal.e4m3fn
  have h1 : (BitVec.ofNat 8 n).extractLsb' 7 1 = 0#1 := by interval_cases n <;> decide
  have h2 : ((BitVec.ofNat 8 n).extractLsb' 3 4).toNat = 0 := by interval_cases n <;> decide
  have h3 : ((BitVec.ofNat 8 n).extractLsb' 0 3).toNat = n := by interval_cases n <;> decide
  simp only [h1, h2, h3]
  simp

end Cert.Words
end
-- ==== Proof.Counts.lean ====
/- The counts a block of bags is reduced to: row `c`, column `l` of `counts` is the number of the seven slots of bag `l` that
   hold code `c`, times `2^-9`. -/
module
public import proofs.«01_k».proof.Proof.Tile
public import proofs.«01_k».proof.Proof.Words
public import Idealize.ShloMosaic.Lib.ValueIdx
public import Idealize.ShloMosaic.Lib.Pipeline.Value
@[expose] public section
noncomputable section
namespace Cert.KernelIdeal.Tile
open Idealize.ShloMosaic Idealize.ShloMosaic.ValueIdx Idealize.ShloMosaic.PackedFields Cert.KernelIdeal Cert.KernelIdeal.Gen

/-- An 8 by 128 view of a slot row, read at slot `k` of bag `l`. -/
theorem row_apply (x : IVec S1x1x8x128 32) (k : Fin 8) (l : Fin 128) :
    shapeCast S8x128 x shapeCasts_S1x1x8x128_S8x128 (ix2 k l) = x (ix4 0 0 k l) := by
  refine shapeCast_apply _ _ _ _ ?_
  rw [Shape.rowMajor_val_four, Shape.rowMajor_val_two]
  simp

/-- Row `k` of an 8 by 128 array, repeated down 32 rows. -/
theorem repeat_apply {α : Type} (x : S8x128.Idx → α) (k : Nat) (hk : k < 8) (r : Fin 32) (l : Fin 128) :
    broadcastTo S32x128 (extractStridedSlice S1x128 ![k, 0] x (slices_row k hk)) broadcasts_S1x128_S32x128 (ix2 r l)
      = x (ix2 ⟨k, hk⟩ l) := by
  refine (broadcastTo_apply _ _ _ (ix2 (0 : Fin 1) l) ?_).trans ?_
  · intro a; fin_cases a <;> rfl
  · refine extractStridedSlice_apply _ _ _ _ _ ?_
    intro a; fin_cases a <;> simp

/-- What slot `k` adds to the packed words, read at word `r` of bag `l`. -/
theorem hit_apply (v w : IVec S1x1x8x128 32) (sh : BitVec 32) (k : Nat) (hk : k < 8) (r : Fin 32) (l : Fin 128) :
    hit k hk (wordNo v w sh) (one w sh) (ix2 r l)
      = Words.hit (v (ix4 0 0 ⟨k, hk⟩ l)) (Words.code (w (ix4 0 0 ⟨k, hk⟩ l)) sh) r.val := by
  have hlo : broadcastTo S32x128 (shapeCast S1x128 (extractStridedSlice S1x128 ![k, 0] (one w sh) (slices_row k hk)) shapeCasts_S1x128_S1x128)
      broadcasts_S1x128_S32x128 (ix2 r l) = one w sh (ix2 ⟨k, hk⟩ l) := by
    have e : ∀ y : IVec S1x128 32, shapeCast S1x128 y shapeCasts_S1x128_S1x128 = y :=
      fun y => funext fun j => shapeCast_apply _ _ _ _ rfl
    rw [e]
    exact repeat_apply _ k hk r l
  unfold hit select
  rw [hlo]
  unfold cmpi
  rw [repeat_apply _ k hk, iota_single_apply]
  unfold wordNo one held Tile.code select shrsi shli andi broadcast cmpi
  simp only [row_apply]
  rfl

/-- The packed words, read at word `r` of bag `l`. -/
theorem packed_apply (v w : IVec S1x1x8x128 32) (sh : BitVec 32) (r : Fin 32) (l : Fin 128) :
    packed (wordNo v w sh) (one w sh) (ix2 r l)
      = Words.packed (fun k => v (ix4 0 0 k.castSucc l)) (fun k => Words.code (w (ix4 0 0 k.castSucc l)) sh) r.val := by
  unfold packed addi
  simp only [hit_apply]
  rfl

/-- The fields, read at row `c` of bag `l`. -/
theorem fields_apply (p : IVec S32x128 32) (c : Fin 256) (l : Fin 128) :
    fields p (ix2 c l) = Words.nibble (p (ix2 ⟨c.val / 8, by omega⟩ l)) c.val := by
  have h : shapeCast S256x128 (broadcastTo S32x8x128 (shapeCast S32x1x128 (shapeCast S32x1x128 p shapeCasts_S32x128_S32x1x128)
      shapeCasts_S32x1x128_S32x1x128) broadcasts_S32x1x128_S32x8x128) shapeCasts_S32x8x128_S256x128 (ix2 c l)
      = p (ix2 ⟨c.val / 8, by omega⟩ l) := by
    refine (shapeCast_apply _ _ _ (ix3 ⟨c.val / 8, by omega⟩ ⟨c.val % 8, by omega⟩ l) ?_).trans ?_
    · rw [Shape.rowMajor_val_three, Shape.rowMajor_val_two]
      show (c.val / 8 * 8 + c.val % 8) * 128 + l.val = c.val * 128 + l.val
      omega
    refine (broadcastTo_apply _ _ _ (ix3 ⟨c.val / 8, by omega⟩ 0 l) ?_).trans ?_
    · intro a; fin_cases a <;> rfl
    refine (shapeCast_apply _ _ _ (ix3 ⟨c.val / 8, by omega⟩ 0 l) rfl).trans ?_
    refine shapeCast_apply _ _ _ _ ?_
    rw [Shape.rowMajor_val_three, Shape.rowMajor_val_two]
    simp
  unfold fields extsi trunci shrsi
  rw [h]
  unfold muli andi
  rw [iota_single_apply]
  rfl

/-- How often code `c` occurs among the seven slots of bag `l`. -/
def occ (v w : IVec S1x1x8x128 32) (sh : BitVec 32) (c : Nat) (l : Fin 128) : Nat :=
  Words.count (fun k => v (ix4 0 0 k.castSucc l)) (fun k => Words.code (w (ix4 0 0 k.castSucc l)) sh) c

/-- The counts over the extended reals: the number of slots of bag `l` that hold code `c`, times `2^-9`. -/
theorem counts_apply (v w : IVec S1x1x8x128 32) (sh : BitVec 32) (c : Fin 256) (l : Fin 128) :
    counts (F := Ideal) v w sh (ix2 c l) = (((occ v w sh c.val l : ℝ) * (2 : ℝ) ^ (-9 : Int) : ℝ) : EReal) := by
  unfold counts bitcastToFloat
  rw [fields_apply, packed_apply]
  have hf := Words.field_packed (fun k : Fin 7 => v (ix4 0 0 k.castSucc l)) (fun k => Words.code (w (ix4 0 0 k.castSucc l)) sh)
    (c.val / 8) (c.val % 8) (by omega) (by omega)
  rw [show 8 * (c.val / 8) + c.val % 8 = c.val by omega] at hf
  have hle := Words.count_le (fun k : Fin 7 => v (ix4 0 0 k.castSucc l)) (fun k => Words.code (w (ix4 0 0 k.castSucc l)) sh) c.val
  rw [Words.nibble_eq _ _ (by omega) (by rw [hf]; exact hle), hf]
  exact Words.e4m3fn_count _ hle

end Cert.KernelIdeal.Tile
end
-- ==== Proof.Equation.lean ====
/- The equation behind the kernel: multiplying a codebook by the numbers of slots that hold each code, and scaling, is
   summing the scaled codebook entries of the slots. It holds over the extended reals for a scale in `[0, ⊤)`. -/
module
public import proofs.«01_k».proof.Proof.Words
public import Mathlib.Data.EReal.Operations
public import Mathlib.Algebra.BigOperators.Ring.Finset
@[expose] public section
noncomputable section
namespace Cert.Equation
open Idealize.ShloMosaic

/-- A finite sum times a number in `[0, ⊤)` is the sum of the products. -/
theorem sum_mul_of_nonneg {ι : Type} (S : Finset ι) (f : ι → EReal) (s : EReal) (h0 : 0 ≤ s) (ht : s ≠ ⊤) :
    (∑ i ∈ S, f i) * s = ∑ i ∈ S, f i * s := by
  classical
  induction S using Finset.induction_on with
  | empty => simp
  | insert a S ha ih =>
    rw [Finset.sum_insert ha, Finset.sum_insert ha, EReal.right_distrib_of_nonneg_of_ne_top h0 ht, ih]

/-- A natural number that is a finite sum, times any extended real, is the sum of the products. -/
theorem natSum_mul {ι : Type} (S : Finset ι) (n : ι → Nat) (y : EReal) :
    ((∑ i ∈ S, n i : Nat) : EReal) * y = ∑ i ∈ S, (n i : EReal) * y := by
  classical
  induction S using Finset.induction_on with
  | empty => simp
  | insert a S ha ih =>
    rw [Finset.sum_insert ha, Finset.sum_insert ha, Nat.cast_add,
      EReal.right_distrib_of_nonneg (Nat.cast_nonneg' _) (Nat.cast_nonneg' _), ih]

/-- The codebook times the counts (each times `2^-9`), times 512 times the scale, is the sum over the slots that hold an id
    of the codebook entry of the slot's code times the scale. -/
theorem counts_eq_pool (v x : Fin 7 → BitVec 32) (cb : Fin 256 → EReal) (s : EReal) (h0 : 0 ≤ s) (ht : s ≠ ⊤)
    (hx : ∀ k, (x k).toNat < 256) :
    (∑ c : Fin 256, cb c * (((Words.count v x c.val : ℝ) * (2 : ℝ) ^ (-9 : Int) : ℝ) : EReal)) * (s * ((512 : ℝ) : EReal))
      = ∑ k : Fin 7, if v k ≠ 0#32 then cb ⟨(x k).toNat, hx k⟩ * s else 0 := by
  have hs0 : 0 ≤ s * ((512 : ℝ) : EReal) := mul_nonneg h0 (by exact_mod_cast (by norm_num : (0 : ℝ) ≤ 512))
  have hst : s * ((512 : ℝ) : EReal) ≠ ⊤ := by
    induction s with
    | bot => simp at h0
    | top => exact absurd rfl ht
    | coe r => rw [← EReal.coe_mul]; exact EReal.coe_ne_top _
  rw [sum_mul_of_nonneg _ _ _ hs0 hst]
  have hterm : ∀ c : Fin 256, cb c * (((Words.count v x c.val : ℝ) * (2 : ℝ) ^ (-9 : Int) : ℝ) : EReal) * (s * ((512 : ℝ) : EReal))
      = ∑ k : Fin 7, if v k ≠ 0#32 ∧ (x k).toNat = c.val then cb c * s else 0 := fun c => by
    have h1 : ((2 : ℝ) ^ (-9 : Int)) * 512 = 1 := by norm_num
    have h2 : (((Words.count v x c.val : ℝ) * (2 : ℝ) ^ (-9 : Int) : ℝ) : EReal) * ((512 : ℝ) : EReal)
        = ((Words.count v x c.val : Nat) : EReal) := by
      rw [← EReal.coe_mul, mul_assoc, h1, mul_one]; rfl
    calc cb c * (((Words.count v x c.val : ℝ) * (2 : ℝ) ^ (-9 : Int) : ℝ) : EReal) * (s * ((512 : ℝ) : EReal))
        = (((Words.count v x c.val : ℝ) * (2 : ℝ) ^ (-9 : Int) : ℝ) : EReal) * ((512 : ℝ) : EReal) * (cb c * s) := by
          ac_rfl
      _ = _ := by
          rw [h2]
          unfold Words.count
          rw [natSum_mul]
          refine Finset.sum_congr rfl fun k _ => ?_
          unfold Words.ind
          split <;> simp
  simp only [hterm]
  rw [Finset.sum_comm]
  refine Finset.sum_congr rfl fun k _ => ?_
  by_cases hv : v k ≠ 0#32
  · rw [if_pos hv, Finset.sum_eq_single (⟨(x k).toNat, hx k⟩ : Fin 256)]
    · rw [if_pos ⟨hv, rfl⟩]
    · intro c _ hc
      exact if_neg fun h => hc (Fin.ext h.2.symm)
    · intro h; exact absurd (Finset.mem_univ _) h
  · rw [if_neg hv]
    exact Finset.sum_eq_zero fun c _ => if_neg fun h => hv h.1

/-- A code is below 256. -/
theorem code_lt (w sh : BitVec 32) : (Words.code w sh).toNat < 256 := by
  unfold Words.code IntOp.andi
  rw [BitVec.toNat_and]
  exact lt_of_le_of_lt Nat.and_le_right (by decide)

end Cert.Equation
end
-- ==== Proof.Block.lean ====
/- What one grid point leaves over the extended reals: element `(r, q)` of its 256 by 1280 block is the sum, over the seven
   slots of bag `r` that hold an id, of the codebook entry that the slot's code names, times the scale. -/
module
public import proofs.«01_k».proof.Proof.Counts
public import proofs.«01_k».proof.Proof.Equation
public import Idealize.ShloMosaic.Lib.MatmulPlain
public import Idealize.ShloMosaic.Lib.Pipeline.ValueKit.Tiles
@[expose] public section
noncomputable section
namespace Cert.KernelIdeal.Tile
open Idealize.ShloMosaic Idealize.ShloMosaic.ValueIdx Cert.KernelIdeal Cert.KernelIdeal.Gen

/-- The word `0x44000000` denotes 512. -/
theorem ofBits_512 : Ideal.ofBits .f32 0x44000000#32 = ((512 : ℝ) : EReal) := by
  unfold Ideal.ofBits
  dsimp only
  unfold Ideal.ieee
  have h1 : (0x44000000#32 : BitVec 32).extractLsb' (8 + 23) 1 = 0#1 := by decide
  have h2 : ((0x44000000#32 : BitVec 32).extractLsb' 23 8).toNat = 136 := by decide
  have h3 : ((0x44000000#32 : BitVec 32).extractLsb' 0 23).toNat = 0 := by decide
  simp only [h1, h2, h3]
  norm_num

variable (x0 : Vec Ideal S20 .f32) (x1 : Vec Ideal S2x8x8x128 .i32) (x2 : Vec Ideal S20x64x256 .fp8e4m3)

/-- The validity word of slot `k` of bag `r` of the block. -/
def valid (r : Fin 256) (k : Fin 7) : BitVec 32 := x1 (ix4 ⟨r.val / 128, by omega⟩ 5 k.castSucc ⟨r.val % 128, by omega⟩)

/-- The code at position `8 sh` of word `g` of slot `k` of bag `r` of the block. -/
def slotCode (g : Nat) (hg : g < 5) (sh : BitVec 32) (r : Fin 256) (k : Fin 7) : BitVec 32 :=
  Words.code (x1 (ix4 ⟨r.val / 128, by omega⟩ ⟨g, by omega⟩ k.castSucc ⟨r.val % 128, by omega⟩)) sh

theorem slotRow_apply (b g : Nat) (hb : b < 2) (hg : g < 8) (k : Fin 8) (l : Fin 128) :
    slotRow x1 b g hb hg (ix4 0 0 k l) = x1 (ix4 ⟨b, hb⟩ ⟨g, hg⟩ k l) := by
  unfold slotRow
  refine View.ld_unit_apply_of _ _ _ _ _ _ ?_
  intro a; fin_cases a <;> simp

/-- The counts of both groups of bags, read at code `c` of bag `r` of the block. -/
theorem counts2_apply (g : Nat) (hg : g < 5) (sh : BitVec 32) (c r : Fin 256) :
    counts2 x1 g hg sh (ix2 c r)
      = (((Words.count (valid x1 r) (slotCode x1 g hg sh r) c.val : ℝ) * (2 : ℝ) ^ (-9 : Int) : ℝ) : EReal) := by
  unfold counts2
  by_cases hr : r.val < 128
  · refine (concatenate_pair_apply_left (t := S256x256) (s₁ := S256x128) (s₂ := S256x128) 1 _ _ _ (ix2 c r) rfl (ix2 c (⟨r.val, hr⟩ : Fin 128)) ?_).trans ?_
    · intro b; fin_cases b <;> rfl
    rw [counts_apply]
    unfold occ valid slotCode
    simp only [slotRow_apply, Nat.div_eq_of_lt hr, Nat.mod_eq_of_lt hr]
    rfl
  · have h1 : r.val / 128 = 1 := by omega
    have h2 : r.val % 128 = r.val - 128 := by omega
    refine (concatenate_pair_apply_right (t := S256x256) (s₁ := S256x128) (s₂ := S256x128) 1 _ _ _ (ix2 c r) rfl rfl (ix2 c (⟨r.val - 128, by omega⟩ : Fin 128)) ?_ ?_).trans ?_
    · intro b hb; fin_cases b
      · rfl
      · exact absurd rfl hb
    · show r.val - 128 + 128 = r.val; omega
    rw [counts_apply]
    unfold occ valid slotCode
    simp only [slotRow_apply, h1, h2]
    rfl

/-- Element `(r, d)` of tile `n`: the codebook's row times the counts of bag `r`, times 512 times the scale. -/
theorem tile_apply (n : Nat) (hn : n < 20) (g : Nat) (hg : g < 5) (sh : BitVec 32) (r : Fin 256) (d : Fin 64) :
    tile x0 x1 x2 n hn g hg sh (ix2 r d)
      = (∑ c : Fin 256, x2 (ix3 ⟨n, hn⟩ d c)
          * (((Words.count (valid x1 r) (slotCode x1 g hg sh r) c.val : ℝ) * (2 : ℝ) ^ (-9 : Int) : ℝ) : EReal))
        * (x0 (ix1 ⟨n, hn⟩) * ((512 : ℝ) : EReal)) := by
  unfold tile tileOf
  refine (transpose_apply _ _ _ _ (ix2 d r) ?_).trans ?_
  · intro b; fin_cases b <;> rfl
  rw [truncf_apply, mulf_apply]
  have hd : dot_S64x256_S256x256_S64x256_1_0_0_1_n_n = DotDims.plain 64 256 256 := rfl
  rw [hd]
  congr 1
  · refine (Ideal.matmul_plain_apply _ _ _ _ d r).trans ?_
    rw [constant_apply, Ideal.ofBits_zero_f32, zero_add]
    refine Finset.sum_congr rfl fun c _ => ?_
    rw [counts2_apply, extf_apply]
    congr 1
    refine (shapeCast_apply _ _ _ (ix3 (0 : Fin 1) d c) ?_).trans ?_
    · rw [Shape.rowMajor_val_three, Shape.rowMajor_val_two]
      simp
    refine View.ld_unit_apply_of _ _ _ _ _ _ ?_
    intro a; fin_cases a <;> simp
  · show View.ld x0 _ _ * Ideal.ofBits .f32 0x44000000#32 = _
    rw [ofBits_512]
    congr 1
    refine View.ld_unit_apply_of _ _ _ _ _ _ ?_
    intro a; fin_cases a
    simp [Shape.Idx.first]

end Cert.KernelIdeal.Tile
end
-- ==== Proof.Array.lean ====
/- The array that the kernel leaves over the extended reals, element by element. -/
module
public import proofs.«01_k».proof.Proof.Block
public import Idealize.ShloMosaic.Lib.Pipeline.ValueKit
@[expose] public section
noncomputable section
namespace Cert.KernelIdeal.Tile
open Idealize.ShloMosaic hiding ix1 ix2 ix3 ix4 ix5 eq_ix1 eq_ix2 eq_ix3 eq_ix4
open Idealize.ShloMosaic.TcCoe Idealize.ShloMosaic.ValueIdx Cert.KernelIdeal Cert.KernelIdeal.Gen
open Idealize.ShloMosaic.Pipeline (Dat)

section block
variable (x0 : Vec Ideal S20 .f32) (x1 : Vec Ideal S2x8x8x128 .i32) (x2 : Vec Ideal S20x64x256 .fp8e4m3)

/-- A block's element in row `r`, column `q`: column `q` is column `q % 64` of code position `q / 64`, whose code is the byte
    number `q / 64 % 4` of word `q / 64 / 4` of a slot. -/
def blockAt (r : Fin 256) (q : Fin 1280) : EReal :=
  (∑ c : Fin 256, x2 (ix3 ⟨q.val / 64, by omega⟩ ⟨q.val % 64, by omega⟩ c)
      * (((Words.count (valid x1 r) (slotCode x1 (q.val / 64 / 4) (by omega) (BitVec.ofNat 32 (8 * (q.val / 64 % 4))) r) c.val : ℝ)
          * (2 : ℝ) ^ (-9 : Int) : ℝ) : EReal))
    * (x0 (ix1 ⟨q.val / 64, by omega⟩) * ((512 : ℝ) : EReal))

/-- Every tile is the part of the block that it is stored to. -/
theorem piece_apply (n : Nat) (hn : n < 20) (g : Nat) (hg : g < 5) (sh : BitVec 32) (hgn : g = n / 4)
    (hsh : sh = BitVec.ofNat 32 (8 * (n % 4))) (x : S256x64.Idx) :
    tile x0 x1 x2 n hn g hg sh x
      = (fun y : S256x1280.Idx => blockAt x0 x1 x2 (y 0) (y 1)) ((piece x0 x1 x2 n hn g hg sh).1.emb x) := by
  obtain ⟨r, d, rfl⟩ : ∃ (r : Fin 256) (d : Fin 64), x = ix2 r d := ⟨x 0, x 1, eq_ix2 x⟩
  have h0 : ((piece x0 x1 x2 n hn g hg sh).1.emb (ix2 r d : S256x64.Idx)) 0 = r := Fin.ext (by
    show 0 + 1 * r.val = r.val; omega)
  have h1 : (((piece x0 x1 x2 n hn g hg sh).1.emb (ix2 r d : S256x64.Idx)) 1).val = 64 * n + d.val := by
    show 64 * n + 1 * d.val = _; omega
  rw [tile_apply]
  show _ = blockAt x0 x1 x2 _ _
  rw [h0]
  clear h0
  generalize ((piece x0 x1 x2 n hn g hg sh).1.emb (ix2 r d : S256x64.Idx)) 1 = q at h1
  have hd := d.isLt
  have hq : q.val / 64 = n := by omega
  obtain rfl : d = ⟨q.val % 64, Nat.mod_lt _ (by decide)⟩ := Fin.ext (by show d.val = q.val % 64; omega)
  subst hq hgn hsh
  rfl

/-- The tiles cover the block. -/
theorem pieces_cover (y : S256x1280.Idx) : ∃ p ∈ pieces x0 x1 x2, y ∈ p.1.set :=
  View.cover_of_tiledL (pieces x0 x1 x2) S256x64.size (by sl_kernel_rfl) y

/-- The block, element by element. -/
theorem canon_pieces (y : S256x1280.Idx) : View.canon (pieces x0 x1 x2) y = blockAt x0 x1 x2 (y 0) (y 1) := by
  refine View.canon_apply_of_pieces (fun y : S256x1280.Idx => blockAt x0 x1 x2 (y 0) (y 1)) _ ?_ y (pieces_cover x0 x1 x2 y)
  unfold pieces
  simp only [List.forall_mem_cons]
  repeat' (first | exact piece_apply x0 x1 x2 _ _ _ _ _ rfl rfl | apply And.intro)
  simp
end block

variable (cb : Vec Ideal S20x256x64 .fp8e4m3) (sc : Vec Ideal S20 .f32) (sl : Vec Ideal S256x8x8x128 .i32)

/-- Bag `R`'s validity word for slot `k`: not zero when the slot holds an id. -/
def bagValid (R : Fin 32768) (k : Fin 7) : BitVec 32 :=
  sl (ix4 ⟨R.val / 128, by omega⟩ 5 k.castSucc ⟨R.val % 128, by omega⟩)

/-- Bag `R`'s code for slot `k`, code position `n`: byte `n % 4` of word `n / 4` of the slot. -/
def bagCode (R : Fin 32768) (n : Fin 20) (k : Fin 7) : BitVec 32 :=
  Words.code (sl (ix4 ⟨R.val / 128, by omega⟩ ⟨n.val / 4, by omega⟩ k.castSucc ⟨R.val % 128, by omega⟩))
    (BitVec.ofNat 32 (8 * (n.val % 4)))

/-- The kernel's output for bag `R`, code position `n`, codebook column `d`. -/
def outAt (R : Fin 32768) (n : Fin 20) (d : Fin 64) : EReal :=
  (∑ c : Fin 256, cb (ix3 n c d)
      * (((Words.count (bagValid sl R) (bagCode sl R n) c.val : ℝ) * (2 : ℝ) ^ (-9 : Int) : ℝ) : EReal))
    * (sc (ix1 n) * ((512 : ℝ) : EReal))

/-- The kernel's output as an array: column `q` is column `q % 64` of code position `q / 64`. -/
def out : Vec Ideal S32768x1280 .bf16 := fun y =>
  outAt cb sc sl (y 0) ⟨(y 1).val / 64, by have h : (y 1).val < 1280 := (y 1).isLt; omega⟩ ⟨(y 1).val % 64, by omega⟩

/-- A block of the output is the part of the array that it is written to. -/
theorem blockAt_eq (x0 : Vec Ideal S20 .f32) (x1 : Vec Ideal S2x8x8x128 .i32) (x2 : Vec Ideal S20x64x256 .fp8e4m3) (t : Nat) (ht : t < 128)
    (h0 : ∀ n : Fin 20, x0 (ix1 n) = sc (ix1 n))
    (h1 : ∀ (b : Fin 2) (w k : Fin 8) (l : Fin 128), x1 (ix4 b w k l) = sl (ix4 ⟨2 * t + b.val, by omega⟩ w k l))
    (h2 : ∀ (n : Fin 20) (d : Fin 64) (e : Fin 256), x2 (ix3 n d e) = cb (ix3 n e d))
    (r : Fin 256) (q : Fin 1280) (R : Fin 32768) (hR : R.val = 256 * t + r.val) (Q : Fin 1280) (hQ : Q = q) :
    blockAt x0 x1 x2 r q = outAt cb sc sl R ⟨Q.val / 64, by omega⟩ ⟨Q.val % 64, by omega⟩ := by
  subst hQ
  have hb : ∀ w k : Fin 8, x1 (ix4 ⟨r.val / 128, by omega⟩ w k ⟨r.val % 128, by omega⟩)
      = sl (ix4 ⟨R.val / 128, by omega⟩ w k ⟨R.val % 128, by omega⟩) := fun w k => by
    rw [h1]
    congr 1
    exact congrArg₂ (fun (i : Fin 256) (j : Fin 128) => (ix4 i w k j : S256x8x8x128.Idx)) (Fin.ext (by show 2 * t + r.val / 128 = R.val / 128; omega))
      (Fin.ext (by show r.val % 128 = R.val % 128; omega))
  have hv : valid x1 r = bagValid sl R := funext fun k => hb _ _
  have hc : slotCode x1 (Q.val / 64 / 4) (by omega) (BitVec.ofNat 32 (8 * (Q.val / 64 % 4))) r
      = bagCode sl R ⟨Q.val / 64, by omega⟩ := funext fun k => congrArg (fun w => Words.code w _) (hb _ _)
  unfold blockAt outAt
  rw [hv, hc, h0]
  simp only [h2]

section array
variable (m : (ℓ : Loc nD τ sig) → Buf (Elt Ideal) ℓ) (c : Dev nD)

/-- The codebooks as the call finds them: each with its two axes exchanged. -/
theorem V_cb (n : Fin 20) (d : Fin 64) (e : Fin 256) :
    V m c main_v0 (ix3 n d e : S20x64x256.Idx) = m ((c : Thread nD τ).loc main_arg0) (ix3 n e d : S20x256x64.Idx) := by
  have h : V m c main_v0 = transpose S20x64x256 [0, 2, 1] (m ((c : Thread nD τ).loc main_arg0)) transposes_S20x256x64_S20x64x256_0_2_1 := by
    unfold V hostOps0
    after_results
  rw [h]
  refine transpose_apply _ _ _ (ix3 n d e : S20x64x256.Idx) (ix3 n e d : S20x256x64.Idx) ?_
  intro a; fin_cases a <;> rfl

theorem index0 : ∀ t : Fin cfg0.N, win0_0.index t = ![0] := (by decide +kernel : ∀ t : Fin grid0.N, _)
theorem index1 : ∀ t : Fin cfg0.N, win0_1.index t = ![t.val, 0, 0, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![t.val, 0] := (by decide +kernel : ∀ t : Fin grid0.N, _)

/-- Every grid point reads the scales whole. -/
theorem iblk_sc (t : Fin cfg0.N) (n : Fin 20) : iblk m c 0 t (ix1 n : S20.Idx) = m ((c : Thread nD τ).loc main_arg1) (ix1 n : S20.Idx) := by
  rw [← V_main_arg1 m c]
  blk_simp [iblk]
  refine congrArg (V m c main_arg1) (funext fun a => Fin.ext ?_)
  fin_cases a
  blk_simp [index0] <;> simp

/-- Every grid point reads the exchanged codebooks whole. -/
theorem iblk_cb (t : Fin cfg0.N) (n : Fin 20) (d : Fin 64) (e : Fin 256) :
    iblk m c 2 t (ix3 n d e : S20x64x256.Idx) = m ((c : Thread nD τ).loc main_arg0) (ix3 n e d : S20x256x64.Idx) := by
  rw [← V_cb m c]
  blk_simp [iblk]
  refine congrArg (V m c main_v0) (funext fun a => Fin.ext ?_)
  fin_cases a <;> (blk_simp [index2] <;> simp)

/-- Grid point `t` reads the slot blocks `2 t` and `2 t + 1`. -/
theorem iblk_sl (t : Fin cfg0.N) (b : Fin 2) (w k : Fin 8) (l : Fin 128) (B : Fin 256) (hB : B.val = 2 * t.val + b.val) :
    iblk m c 1 t (ix4 b w k l : S2x8x8x128.Idx) = m ((c : Thread nD τ).loc main_arg2) (ix4 B w k l : S256x8x8x128.Idx) := by
  rw [← V_main_arg2 m c]
  blk_simp [iblk]
  refine congrArg (V m c main_arg2) (funext fun a => Fin.ext ?_)
  fin_cases a <;> blk_simp [index1]
  · show t.val * 2 + b.val = B.val; omega
  all_goals first | rfl | simp

/-- The kernel's output array over the extended reals. -/
theorem final : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outsAt0_eq, canon_pieces]
  have e0 : (((win0_3.blk t).view.emb y) 0).val = 256 * t.val + (y 0).val := by
    blk_simp [index3]; simp <;> omega
  have e1 : (((win0_3.blk t).view.emb y) 1).val = (y 1).val := by
    blk_simp [index3] <;> simp
  have ht : t.val < 128 := t.isLt
  exact blockAt_eq _ _ _ (iblk m c 0 t) (iblk m c 1 t) (iblk m c 2 t) t.val ht (iblk_sc m c t)
    (fun b w k l => iblk_sl m c t b w k l _ rfl) (iblk_cb m c t) (y 0) (y 1) _ e0 _ (Fin.ext e1)
end array

end Cert.KernelIdeal.Tile
end
-- ==== Proof.RefWords.lean ====
/- What the reference reads: the slots' validity words, and the codebook rows that the code bytes name. -/
module
public import proofs.«01_k».proof.Proof.Gen.ReferenceIdeal.Value
public import proofs.«01_k».proof.Proof.Words
public import proofs.«01_k».proof.Proof.Equation
public import Idealize.ShloMosaic.Lib.Pipeline.ValueKit
public import Mathlib.Tactic.FinCases
@[expose] public section
noncomputable section
namespace Cert.ReferenceIdeal.Pool
open Idealize.ShloMosaic hiding ix1 ix2 ix3 ix4 ix5 eq_ix1 eq_ix2 eq_ix3 eq_ix4
open Idealize.ShloMosaic.TcCoe Idealize.ShloMosaic.ValueIdx Cert.ReferenceIdeal Cert.ReferenceIdeal.Gen

variable (cb : Vec Ideal S20x256x64 .fp8e4m3) (sl : Vec Ideal S256x8x8x128 .i32)

/-- The validity words as the reference lays them out: one row of seven per bag. -/
def validOf : Vec Ideal S32768x7 .i32 :=
  shapeCast S32768x7 (transpose S256x128x7 [0, 2, 1] (shapeCast S256x7x128
    (extractStridedSlice S256x1x7x128 ![0, 5, 0, 0] sl slices_S256x8x8x128_S256x1x7x128_0_5_0_0)
    shapeCasts_S256x1x7x128_S256x7x128) transposes_S256x7x128_S256x128x7_0_2_1) shapeCasts_S256x128x7_S32768x7

/-- The code words as the reference lays them out: five per slot. -/
def wordsOf : Vec Ideal S32768x7x5 .i32 :=
  shapeCast S32768x7x5 (transpose S256x128x7x5 [0, 3, 2, 1]
    (extractStridedSlice S256x5x7x128 ![0, 0, 0, 0] sl slices_S256x8x8x128_S256x5x7x128_0_0_0_0)
    transposes_S256x5x7x128_S256x128x7x5_0_3_2_1) shapeCasts_S256x128x7x5_S32768x7x5

/-- The code bytes: four per word. -/
def codesOf : Vec Ideal S32768x7x20 .i32 :=
  shapeCast S32768x7x20
    (andi (Host.shrsi
        (broadcastInDim S32768x7x5x4 ![0, 1, 2, 3] bcast_S32768x7x5x1_S32768x7x5x4_0_1_2_3
          (broadcastInDim S32768x7x5x1 ![0, 1, 2] bcast_S32768x7x5_S32768x7x5x1_0_1_2 (wordsOf sl)))
        (broadcastInDim S32768x7x5x4 ![0, 1, 2, 3] bcast_S1x1x1x4_S32768x7x5x4_0_1_2_3
          (broadcastInDim S1x1x1x4 ![3] bcast_S4_S1x1x1x4_3
            (muli (broadcastInDim S4 ![] bcast_S_S4 (constantI S_ 32 8#32)) (iotaInDim S4 32 0)))))
      (broadcastInDim S32768x7x5x4 ![] bcast_S_S32768x7x5x4 (constantI S_ 32 255#32)))
    shapeCasts_S32768x7x5x4_S32768x7x20

/-- The code positions, zero to nineteen, with a negative one counted from the end. -/
def placesOf : Vec Ideal S1x1x20 .i32 :=
  select (cmpi CmpIPredicate.slt (broadcastInDim S1x1x20 ![2] bcast_S20_S1x1x20_2 (iotaInDim S20 32 0))
      (broadcastInDim S1x1x20 ![] bcast_S_S1x1x20 (constantI S_ 32 0#32)))
    (addi (broadcastInDim S1x1x20 ![2] bcast_S20_S1x1x20_2 (iotaInDim S20 32 0))
      (broadcastInDim S1x1x20 ![] bcast_S_S1x1x20 (constantI S_ 32 20#32)))
    (broadcastInDim S1x1x20 ![2] bcast_S20_S1x1x20_2 (iotaInDim S20 32 0))

/-- The code bytes with a negative one counted from the end. -/
def rowsOf : Vec Ideal S32768x7x20 .i32 :=
  select (cmpi CmpIPredicate.slt (codesOf sl) (broadcastInDim S32768x7x20 ![] bcast_S_S32768x7x20 (constantI S_ 32 0#32)))
    (addi (codesOf sl) (broadcastInDim S32768x7x20 ![] bcast_S_S32768x7x20 (constantI S_ 32 256#32)))
    (codesOf sl)

/-- The pairs (code position, code) at which the codebooks are read. -/
def indexOf : Vec Ideal S32768x7x20x2 .i32 :=
  concatenate S32768x7x20x2 3
    [⟨S32768x7x20x1, broadcastInDim S32768x7x20x1 ![0, 1, 2] bcast_S32768x7x20_S32768x7x20x1_0_1_2
        (broadcastInDim S32768x7x20 ![0, 1, 2] bcast_S1x1x20_S32768x7x20_0_1_2 placesOf)⟩,
      ⟨S32768x7x20x1, broadcastInDim S32768x7x20x1 ![0, 1, 2] bcast_S32768x7x20_S32768x7x20x1_0_1_2 (rowsOf sl)⟩]
    concatenates_S32768x7x20x1_S32768x7x20x1_S32768x7x20x2_d3

/-- The codebook rows that the bags' slots name. -/
def subOf : Vec Ideal S32768x7x20x64 .fp8e4m3 :=
  Host.gather gather_S20x256x64_S32768x7x20x2_S32768x7x20x64_3_01_n_n_01_3_1164 cb (indexOf sl)

section entries
variable (R : Fin 32768) (k : Fin 7) (n : Fin 20) (d : Fin 64)

/-- A slot of bag `R` is valid by word 5 of lane `R % 128` of block `R / 128`. -/
theorem validOf_apply : validOf sl (ix2 R k) = sl (ix4 ⟨R.val / 128, by omega⟩ 5 k.castSucc ⟨R.val % 128, by omega⟩) := by
  unfold validOf
  have h0 : R.val / 128 < 256 := by omega
  have h1 : R.val % 128 < 128 := by omega
  refine (shapeCast_apply _ _ _ (ix3 ⟨R.val / 128, h0⟩ ⟨R.val % 128, h1⟩ k : S256x128x7.Idx) ?_).trans ?_
  · rw [Shape.rowMajor_val_three, Shape.rowMajor_val_two]
    show (R.val / 128 * 128 + R.val % 128) * 7 + k.val = R.val * 7 + k.val
    omega
  refine (transpose_apply _ _ _ _ (ix3 ⟨R.val / 128, h0⟩ k ⟨R.val % 128, h1⟩ : S256x7x128.Idx) ?_).trans ?_
  · intro a; fin_cases a <;> rfl
  refine (shapeCast_apply _ _ _ (ix4 ⟨R.val / 128, h0⟩ 0 k ⟨R.val % 128, h1⟩ : S256x1x7x128.Idx) ?_).trans ?_
  · rw [Shape.rowMajor_val_three, Shape.rowMajor_val_four]
    show ((R.val / 128 * 1 + 0) * 7 + k.val) * 128 + R.val % 128 = (R.val / 128 * 7 + k.val) * 128 + R.val % 128
    omega
  refine extractStridedSlice_apply _ _ _ _ _ ?_
  intro a; fin_cases a
  · exact (Nat.zero_add _).symm
  · rfl
  · exact (Nat.zero_add _).symm
  · exact (Nat.zero_add _).symm

/-- Word `g` of slot `k` of bag `R`. -/
theorem wordsOf_apply (g : Fin 5) : wordsOf sl (ix3 R k g)
    = sl (ix4 ⟨R.val / 128, by omega⟩ ⟨g.val, by omega⟩ k.castSucc ⟨R.val % 128, by omega⟩) := by
  unfold wordsOf
  have h0 : R.val / 128 < 256 := by omega
  have h1 : R.val % 128 < 128 := by omega
  refine (shapeCast_apply _ _ _ (ix4 ⟨R.val / 128, h0⟩ ⟨R.val % 128, h1⟩ k g : S256x128x7x5.Idx) ?_).trans ?_
  · rw [Shape.rowMajor_val_three, Shape.rowMajor_val_four]
    show ((R.val / 128 * 128 + R.val % 128) * 7 + k.val) * 5 + g.val = (R.val * 7 + k.val) * 5 + g.val
    omega
  refine (transpose_apply _ _ _ _ (ix4 ⟨R.val / 128, h0⟩ g k ⟨R.val % 128, h1⟩ : S256x5x7x128.Idx) ?_).trans ?_
  · intro a; fin_cases a <;> rfl
  refine extractStridedSlice_apply _ _ _ _ _ ?_
  intro a; fin_cases a <;> exact (Nat.zero_add _).symm

/-- The code of position `n` is byte `n % 4` of word `n / 4`. -/
theorem codesOf_apply : codesOf sl (ix3 R k n)
    = Words.code (sl (ix4 ⟨R.val / 128, by omega⟩ ⟨n.val / 4, by omega⟩ k.castSucc ⟨R.val % 128, by omega⟩))
        (BitVec.ofNat 32 (8 * (n.val % 4))) := by
  unfold codesOf
  have h0 : n.val / 4 < 5 := by omega
  have h1 : n.val % 4 < 4 := by omega
  refine (shapeCast_apply _ _ _ (ix4 R k ⟨n.val / 4, h0⟩ ⟨n.val % 4, h1⟩ : S32768x7x5x4.Idx) ?_).trans ?_
  · rw [Shape.rowMajor_val_three, Shape.rowMajor_val_four]
    show ((R.val * 7 + k.val) * 5 + n.val / 4) * 4 + n.val % 4 = (R.val * 7 + k.val) * 20 + n.val
    omega
  have hw : broadcastInDim S32768x7x5x4 ![0, 1, 2, 3] bcast_S32768x7x5x1_S32768x7x5x4_0_1_2_3
          (broadcastInDim S32768x7x5x1 ![0, 1, 2] bcast_S32768x7x5_S32768x7x5x1_0_1_2 (wordsOf sl))
          (ix4 R k ⟨n.val / 4, h0⟩ ⟨n.val % 4, h1⟩ : S32768x7x5x4.Idx)
      = sl (ix4 ⟨R.val / 128, by omega⟩ ⟨n.val / 4, by omega⟩ k.castSucc ⟨R.val % 128, by omega⟩) := by
    refine (broadcastInDim_apply _ _ _ _ (ix4 R k ⟨n.val / 4, h0⟩ 0 : S32768x7x5x1.Idx) ?_).trans ?_
    · intro a; fin_cases a <;> rfl
    refine (broadcastInDim_apply _ _ _ _ (ix3 R k ⟨n.val / 4, h0⟩ : S32768x7x5.Idx) ?_).trans ?_
    · intro a; fin_cases a <;> rfl
    exact wordsOf_apply sl R k _
  have hs : broadcastInDim S32768x7x5x4 ![0, 1, 2, 3] bcast_S1x1x1x4_S32768x7x5x4_0_1_2_3
          (broadcastInDim S1x1x1x4 ![3] bcast_S4_S1x1x1x4_3
            (muli (broadcastInDim S4 ![] bcast_S_S4 (constantI S_ 32 8#32)) (iotaInDim S4 32 0)))
          (ix4 R k ⟨n.val / 4, h0⟩ ⟨n.val % 4, h1⟩ : S32768x7x5x4.Idx)
      = BitVec.ofNat 32 (8 * (n.val % 4)) := by
    refine (broadcastInDim_apply _ _ _ _ (ix4 0 0 0 ⟨n.val % 4, h1⟩ : S1x1x1x4.Idx) ?_).trans ?_
    · intro a; fin_cases a <;> rfl
    refine (broadcastInDim_apply _ _ _ _ (ix1 ⟨n.val % 4, h1⟩ : S4.Idx) ?_).trans ?_
    · intro a; fin_cases a; rfl
    show IntOp.muli 8#32 (BitVec.ofNat 32 (n.val % 4)) = _
    unfold IntOp.muli
    rw [← BitVec.ofNat_mul]
  show IntOp.andi (IntOp.shrsi .host _ _) 255#32 = _
  rw [hw, hs]
  unfold Words.code IntOp.shrsi
  have h : (BitVec.ofNat 32 (8 * (n.val % 4))).toNat < 32 := by
    rw [BitVec.toNat_ofNat]; omega
  rw [if_pos h, if_pos h]

/-- A code is not negative, so it is the row itself. -/
theorem rowsOf_apply : rowsOf sl (ix3 R k n) = codesOf sl (ix3 R k n) := by
  have hlt := Equation.code_lt (sl (ix4 ⟨R.val / 128, by omega⟩ ⟨n.val / 4, by omega⟩ k.castSucc ⟨R.val % 128, by omega⟩))
    (BitVec.ofNat 32 (8 * (n.val % 4)))
  rw [← codesOf_apply] at hlt
  unfold rowsOf
  show Scalar.select (IntOp.cmpi .slt (codesOf sl (ix3 R k n)) 0#32) _ (codesOf sl (ix3 R k n)) = _
  generalize codesOf sl (ix3 R k n) = w at hlt
  have : IntOp.cmpi .slt w 0#32 = 0#1 := by
    unfold IntOp.cmpi
    have : w.slt 0#32 = false := by
      rw [BitVec.slt_eq_decide]
      refine decide_eq_false ?_
      rw [BitVec.toInt_eq_toNat_of_lt (by omega)]
      simp
    simp [this]
  rw [this, Words.select_zero]

/-- A code position is not negative, so it is the codebook itself. -/
theorem placesOf_apply : placesOf (ix3 0 0 n : S1x1x20.Idx) = BitVec.ofNat 32 n.val := by
  revert n
  have h : ∀ n : Fin 20, Scalar.select (IntOp.cmpi .slt (BitVec.ofNat 32 n.val) 0#32) (IntOp.addi (BitVec.ofNat 32 n.val) 20#32)
    (BitVec.ofNat 32 n.val) = BitVec.ofNat 32 n.val := by decide
  exact h

/-- The first entry of a table index is the code position. -/
theorem indexOf_apply_zero : indexOf sl (ix4 R k n 0) = BitVec.ofNat 32 n.val := by
  unfold indexOf
  refine (concatenate_pair_apply_left (t := S32768x7x20x2) (s₁ := S32768x7x20x1) (s₂ := S32768x7x20x1) 3 _ _ _ (ix4 R k n 0) rfl
    (ix4 R k n 0 : S32768x7x20x1.Idx) ?_).trans ?_
  · intro a; fin_cases a <;> rfl
  refine (broadcastInDim_apply _ _ _ _ (ix3 R k n : S32768x7x20.Idx) ?_).trans ?_
  · intro a; fin_cases a <;> rfl
  refine (broadcastInDim_apply _ _ _ _ (ix3 0 0 n : S1x1x20.Idx) ?_).trans (placesOf_apply n)
  intro a; fin_cases a <;> rfl

/-- The second entry of a table index is the code. -/
theorem indexOf_apply_one : indexOf sl (ix4 R k n 1) = codesOf sl (ix3 R k n) := by
  unfold indexOf
  refine (concatenate_pair_apply_right (t := S32768x7x20x2) (s₁ := S32768x7x20x1) (s₂ := S32768x7x20x1) 3 _ _ _ (ix4 R k n 1) rfl rfl
    (ix4 R k n 0 : S32768x7x20x1.Idx) ?_ rfl).trans ?_
  · intro a ha; fin_cases a
    · rfl
    · rfl
    · rfl
    · exact absurd rfl ha
  refine (broadcastInDim_apply _ _ _ _ (ix3 R k n : S32768x7x20.Idx) ?_).trans (rowsOf_apply sl R k n)
  intro a; fin_cases a <;> rfl

/-- Component `i` of the start index of result element `(R, k, n, d)` is read at `(R, k, n, i)`. -/
theorem siIdx_eq (i : Fin 2) :
    gather_S20x256x64_S32768x7x20x2_S32768x7x20x64_3_01_n_n_01_3_1164.siIdx (ix4 R k n d : S32768x7x20x64.Idx) i
      = (ix4 R k n i : S32768x7x20x2.Idx) := by
  funext b; refine Fin.ext ?_
  fin_cases b <;> rfl

/-- The gathered row: row `code` of codebook `n`. -/
theorem subOf_apply (w : Fin 256) (hw : (codesOf sl (ix3 R k n)).toNat = w.val) :
    subOf cb sl (ix4 R k n d) = cb (ix3 n w d) := by
  have hi : (BitVec.ofNat 32 n.val).toInt.toNat = n.val := by
    rw [BitVec.toInt_eq_toNat_of_lt (by rw [BitVec.toNat_ofNat]; omega), BitVec.toNat_ofNat]; simp; omega
  have hj : (codesOf sl (ix3 R k n)).toInt.toNat = w.val := by
    rw [BitVec.toInt_eq_toNat_of_lt (by omega), hw]; rfl
  unfold subOf Host.gather
  refine congrArg cb (funext fun a => Fin.ext ?_)
  show GatherDims.start _ _ _ a + GatherDims.batchCoord _ _ a + GatherDims.offCoord _ _ a = _
  rw [GatherDims.batchCoord_eq_zero _ _ _ List.not_mem_nil, Nat.add_zero]
  fin_cases a
  · rw [GatherDims.offCoord_eq_zero _ _ _ (fun h => ((GatherDims.mem_sKept _ _).mp h).1 (by simp [gather_S20x256x64_S32768x7x20x2_S32768x7x20x64_3_01_n_n_01_3_1164]))]
    unfold GatherDims.start
    rw [dif_pos (by simp [gather_S20x256x64_S32768x7x20x2_S32768x7x20x64_3_01_n_n_01_3_1164])]
    show min (indexOf sl (gather_S20x256x64_S32768x7x20x2_S32768x7x20x64_3_01_n_n_01_3_1164.siIdx (ix4 R k n d : S32768x7x20x64.Idx) (0 : Fin 2))).toInt.toNat 19 + 0 = n.val
    rw [siIdx_eq, indexOf_apply_zero, hi]
    omega
  · rw [GatherDims.offCoord_eq_zero _ _ _ (fun h => ((GatherDims.mem_sKept _ _).mp h).1 (by simp [gather_S20x256x64_S32768x7x20x2_S32768x7x20x64_3_01_n_n_01_3_1164]))]
    unfold GatherDims.start
    rw [dif_pos (by simp [gather_S20x256x64_S32768x7x20x2_S32768x7x20x64_3_01_n_n_01_3_1164])]
    show min (indexOf sl (gather_S20x256x64_S32768x7x20x2_S32768x7x20x64_3_01_n_n_01_3_1164.siIdx (ix4 R k n d : S32768x7x20x64.Idx) (1 : Fin 2))).toInt.toNat 255 + 0 = w.val
    rw [siIdx_eq, indexOf_apply_one, hj]
    omega
  · unfold GatherDims.start
    rw [dif_neg (by simp [gather_S20x256x64_S32768x7x20x2_S32768x7x20x64_3_01_n_n_01_3_1164])]
    exact Nat.zero_add _
end entries

variable (m : (ℓ : Loc nD τ sig) → Buf (Elt Ideal) ℓ) (c : Dev nD)

/-- The validity words that the call is given. -/
theorem V_valid : V m c main_v6 = validOf (m ((c : Thread nD τ).loc main_arg2)) := by
  unfold V hostOps0
  after_results
  rfl

/-- The gathered rows that the call is given. -/
theorem V_sub : V m c main_v34 = subOf (m ((c : Thread nD τ).loc main_arg0)) (m ((c : Thread nD τ).loc main_arg2)) := by
  unfold V hostOps0
  after_results
  rfl

end Cert.ReferenceIdeal.Pool
end
-- ==== Proof.RefValue.lean ====
/- What the reference computes: each bag's decoded rows, masked, scaled and added. -/
module
public import proofs.«01_k».proof.Proof.RefWords
public import Idealize.ShloMosaic.Lib.Pointwise.Reduce
@[expose] public section
noncomputable section
namespace Cert.ReferenceIdeal.Pool
open Idealize.ShloMosaic hiding ix1 ix2 ix3 ix4 ix5 eq_ix1 eq_ix2 eq_ix3 eq_ix4
open Idealize.ShloMosaic.TcCoe Idealize.ShloMosaic.ValueIdx Cert.ReferenceIdeal Cert.ReferenceIdeal.Gen

section pool
variable (P0 : Vec Ideal S32768x7 .i32) (P1 : Vec Ideal S32768x7x20x64 .fp8e4m3) (P2 : Vec Ideal S20 .f32)

/-- One term of the sum over the slots: the scaled row of a valid slot, zero otherwise. -/
def term : FVec Ideal S32768x7x20x64 .f32 :=
  select (broadcastTo S32768x7x20x64 (shapeCast S32768x7x1x1 (cmpi .ne (shapeCast S32768x7x1x1 (shapeCast S32768x7 P0 shapeCasts_S32768x7_S32768x7) shapeCasts_S32768x7_S32768x7x1x1) (broadcast S32768x7x1x1 0#32)) shapeCasts_S32768x7x1x1_S32768x7x1x1) broadcasts_S32768x7x1x1_S32768x7x20x64) (mulf (extf .f32 (shapeCast S32768x7x20x64 P1 shapeCasts_S32768x7x20x64_S32768x7x20x64) bitsLt_fp8e4m3_f32) (broadcastTo S32768x7x20x64 (shapeCast S1x1x20x1 P2 shapeCasts_S20_S1x1x20x1) broadcasts_S1x1x20x1_S32768x7x20x64)) (broadcast S32768x7x20x64 (Scalar.ofBits .f32 0x00000000#32))

theorem term_apply (R : Fin 32768) (k : Fin 7) (n : Fin 20) (d : Fin 64) : term P0 P1 P2 (ix4 R k n d)
    = if P0 (ix2 R k) ≠ 0#32 then P1 (ix4 R k n d) * P2 (ix1 n) else 0 := by
  have hv : broadcastTo S32768x7x20x64 (shapeCast S32768x7x1x1 (cmpi .ne (shapeCast S32768x7x1x1 (shapeCast S32768x7 P0 shapeCasts_S32768x7_S32768x7) shapeCasts_S32768x7_S32768x7x1x1) (broadcast S32768x7x1x1 0#32)) shapeCasts_S32768x7x1x1_S32768x7x1x1) broadcasts_S32768x7x1x1_S32768x7x20x64 (ix4 R k n d)
      = IntOp.cmpi .ne (P0 (ix2 R k)) 0#32 := by
    refine (broadcastTo_apply _ _ _ (ix4 R k 0 0 : S32768x7x1x1.Idx) ?_).trans ?_
    · intro a; fin_cases a <;> rfl
    rw [shapeCast_apply _ _ _ (ix4 R k 0 0 : S32768x7x1x1.Idx) rfl]
    refine congrArg (IntOp.cmpi .ne · 0#32) ?_
    refine (shapeCast_apply _ _ _ (ix2 R k : S32768x7.Idx) ?_).trans (shapeCast_apply _ _ _ _ rfl)
    rw [Shape.rowMajor_val_two, Shape.rowMajor_val_four]
    show R.val * 7 + k.val = ((R.val * 7 + k.val) * 1 + 0) * 1 + 0
    omega
  have hs : broadcastTo S32768x7x20x64 (shapeCast S1x1x20x1 P2 shapeCasts_S20_S1x1x20x1) broadcasts_S1x1x20x1_S32768x7x20x64 (ix4 R k n d)
      = P2 (ix1 n) := by
    refine (broadcastTo_apply _ _ _ (ix4 0 0 n 0 : S1x1x20x1.Idx) ?_).trans ?_
    · intro a; fin_cases a <;> rfl
    refine shapeCast_apply _ _ _ (ix1 n : S20.Idx) ?_
    rw [Shape.rowMajor_val_one, Shape.rowMajor_val_four]
    show n.val = ((0 * 1 + 0) * 20 + n.val) * 1 + 0
    omega
  have hp : shapeCast S32768x7x20x64 P1 shapeCasts_S32768x7x20x64_S32768x7x20x64 (ix4 R k n d) = P1 (ix4 R k n d) :=
    shapeCast_apply _ _ _ _ rfl
  unfold term
  show Scalar.select _ (_ * _ : EReal) (Ideal.ofBits .f32 0x00000000#32) = _
  rw [hv, hs, Ideal.ofBits_zero_f32, Words.cmpi_ne]
  by_cases h : P0 (ix2 R k) = 0#32
  · rw [if_pos h, Words.select_zero, if_neg (not_not.mpr h)]
  · rw [if_neg h, Words.select_one, if_pos h]
    exact congrArg (· * P2 (ix1 n)) hp

/-- The reference's block: column `q` is column `q % 64` of code position `q / 64`. -/
theorem E3_apply (y : S32768x1280.Idx) (R : Fin 32768) (n : Fin 20) (d : Fin 64) (hR : (y 0).val = R.val) (hn : (y 1).val / 64 = n.val)
    (hd : (y 1).val % 64 = d.val) :
    Value.E3 P0 P1 P2 y = ∑ k : Fin 7, if P0 (ix2 R k) ≠ 0#32 then P1 (ix4 R k n d) * P2 (ix1 n) else 0 := by
  have hy : Value.ix3_0 y = (ix3 R n d : S32768x20x64.Idx) := by
    funext a; refine Fin.ext ?_
    fin_cases a
    · exact hR
    · exact hn
    · exact hd
  show multiReduction .add [1] S32768x20x64 (term P0 P1 P2) 0x00000000#32 reduces_S32768x7x20x64_S32768x20x64 (.inl rfl) rfl (Value.ix3_0 y) = _
  rw [hy]
  have h := Ideal.reduceAdd_r4_a1 (n0 := 32768) (n1 := 7) (n2 := 20) (n3 := 64) reduces_S32768x7x20x64_S32768x20x64 (term P0 P1 P2) (ix3 R n d)
  refine (multiReduction_add_apply (F := Ideal) (φ := .f32) (term P0 P1 P2) 0x00000000#32 reduces_S32768x7x20x64_S32768x20x64 (.inl rfl) rfl (ix3 R n d)).trans ?_
  refine h.trans ?_
  refine Finset.sum_congr rfl fun k _ => ?_
  rw [← term_apply P0 P1 P2 R k n d]
  refine congrArg (term P0 P1 P2) (funext fun a => ?_)
  fin_cases a <;> rfl

/-- What the call writes, from its three operands. -/
theorem out0_3_apply (y : S32768x1280.Idx) : out0_3 P1 P2 P0 y = Value.E3 P0 P1 P2 y := by
  have h1 : View.ld P1 r0_0 = P1 := by unfold r0_0; exact View.ld_unit_zero (by decide) _ _
  have h2 : View.ld P2 r0_1 = P2 := by unfold r0_1; exact View.ld_unit_zero (by decide) _ _
  have h0 : View.ld P0 r0_2 = P0 := by unfold r0_2; exact View.ld_unit_zero (by decide) _ _
  unfold out0_3
  rw [h0, h1, h2]
  exact Value.canon3_eq P0 P1 P2 y
end pool

variable (cb : Vec Ideal S20x256x64 .fp8e4m3) (sc : Vec Ideal S20 .f32) (sl : Vec Ideal S256x8x8x128 .i32)

/-- The reference's output as an array. -/
def out : Vec Ideal S32768x1280 .bf16 := Value.E3 (validOf sl) (subOf cb sl) sc

section array
variable (m : (ℓ : Loc nD τ sig) → Buf (Elt Ideal) ℓ) (c : Dev nD)

theorem index0 : ∀ t : Fin cfg0.N, win0_0.index t = ![0, 0, 0, 0] := (by decide +kernel : ∀ t : Fin grid0.N, _)
theorem index1 : ∀ t : Fin cfg0.N, win0_1.index t = ![0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)

/-- The one grid point reads the gathered rows whole. -/
theorem iblk_sub (t : Fin cfg0.N) : iblk m c 0 t = subOf (m ((c : Thread nD τ).loc main_arg0)) (m ((c : Thread nD τ).loc main_arg2)) := by
  rw [← V_sub m c]
  funext y
  blk_simp [iblk]
  refine congrArg (V m c main_v34) (funext fun a => Fin.ext ?_)
  fin_cases a <;> (blk_simp [index0] <;> simp)

/-- The one grid point reads the scales whole. -/
theorem iblk_sc (t : Fin cfg0.N) : iblk m c 1 t = m ((c : Thread nD τ).loc main_arg1) := by
  rw [← V_main_arg1 m c]
  funext y
  blk_simp [iblk]
  refine congrArg (V m c main_arg1) (funext fun a => Fin.ext ?_)
  fin_cases a <;> (blk_simp [index1] <;> simp)

/-- The one grid point reads the validity words whole. -/
theorem iblk_valid (t : Fin cfg0.N) : iblk m c 2 t = validOf (m ((c : Thread nD τ).loc main_arg2)) := by
  rw [← V_valid m c]
  funext y
  blk_simp [iblk]
  refine congrArg (V m c main_v6) (funext fun a => Fin.ext ?_)
  fin_cases a <;> (blk_simp [index2] <;> simp)

/-- The reference's output array over the extended reals. -/
theorem final : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, iblk_sub, iblk_sc, iblk_valid]
  refine (out0_3_apply _ _ _ y).trans ?_
  have hy : (win0_3.blk t).view.emb y = y := by
    funext a; refine Fin.ext ?_
    fin_cases a <;> (blk_simp [index3] <;> simp)
  exact (congrArg (out _ _ _) hy).symm
end array

end Cert.ReferenceIdeal.Pool
end
-- ==== Proof.Equal.lean ====
/- The two output arrays are equal when every scale is at least zero and less than plus infinity. -/
module
public import proofs.«01_k».proof.Proof.Array
public import proofs.«01_k».proof.Proof.RefValue
public import proofs.«01_k».proof.Pre_nonnegative_scales
@[expose] public section
noncomputable section
namespace Cert.Equal
open Idealize.ShloMosaic hiding ix1 ix2 ix3 ix4 ix5 eq_ix1 eq_ix2 eq_ix3 eq_ix4
open Idealize.ShloMosaic.ValueIdx Cert.KernelIdeal

/-- The one side condition of the precondition: a scalar spreads over twenty entries. -/
theorem pre_facts : Cert.Pre_nonnegative_scales.Facts := ⟨by decide⟩

/-- What the precondition says of a scale. -/
theorem scale_of_pre (cb : Vec Ideal S20x256x64 .fp8e4m3) (sc : Vec Ideal S20 .f32) (sl : Vec Ideal S256x8x8x128 .i32)
    (h : @Cert.Pre_nonnegative_scales.fn pre_facts Ideal _ cb sc sl = fun _ => 1#1) (n : Fin 20) :
    0 ≤ sc (ix1 n) ∧ sc (ix1 n) ≠ ⊤ := by
  have e := congrFun h (ix1 n)
  have e' : IntOp.andi (Ideal.cmp .oge (sc (ix1 n)) (Ideal.ofBits .f32 0x00000000#32))
      (Ideal.cmp .olt (sc (ix1 n)) (Ideal.ofBits .f32 0x7F800000#32)) = 1#1 := e
  rw [Ideal.ofBits_zero_f32] at e'
  generalize Ideal.ofBits .f32 0x7F800000#32 = top at e'
  unfold Ideal.cmp IntOp.andi at e'
  by_cases h1 : (0 : EReal) ≤ sc (ix1 n)
  · by_cases h2 : sc (ix1 n) < top
    · exact ⟨h1, ne_top_of_lt h2⟩
    · exact absurd e' (by simp only [h1, h2]; decide)
  · exact absurd e' (by simp only [h1]; simp)

section equal
variable (cb : Vec Ideal S20x256x64 .fp8e4m3) (sc : Vec Ideal S20 .f32) (sl : Vec Ideal S256x8x8x128 .i32)
  (h0 : ∀ n : Fin 20, 0 ≤ sc (ix1 n)) (ht : ∀ n : Fin 20, sc (ix1 n) ≠ ⊤)
include h0 ht

/-- One output element: the kernel's sum over the codes, each row times its count, is the reference's sum over the slots. -/
theorem outAt_eq (R : Fin 32768) (n : Fin 20) (d : Fin 64) : Tile.outAt cb sc sl R n d
    = ∑ k : Fin 7, if Cert.ReferenceIdeal.Pool.validOf sl (ix2 R k) ≠ 0#32
        then Cert.ReferenceIdeal.Pool.subOf cb sl (ix4 R k n d) * sc (ix1 n) else 0 := by
  unfold Tile.outAt
  refine (Equation.counts_eq_pool (Tile.bagValid sl R) (Tile.bagCode sl R n) (fun c => cb (ix3 n c d)) (sc (ix1 n)) (h0 n) (ht n)
    (fun k => Equation.code_lt _ _)).trans ?_
  refine Finset.sum_congr rfl fun k _ => ?_
  rw [Cert.ReferenceIdeal.Pool.validOf_apply, Cert.ReferenceIdeal.Pool.subOf_apply cb sl R k n d
    ⟨(Tile.bagCode sl R n k).toNat, Equation.code_lt _ _⟩ (by rw [Cert.ReferenceIdeal.Pool.codesOf_apply]; rfl)]
  rfl

/-- The two output arrays are equal. -/
theorem out_eq : Tile.out cb sc sl = Cert.ReferenceIdeal.Pool.out cb sc sl := by
  funext y
  have hy : (y 1).val < 1280 := (y 1).isLt
  refine (outAt_eq cb sc sl h0 ht (y 0) ⟨(y 1).val / 64, by omega⟩ ⟨(y 1).val % 64, by omega⟩).trans ?_
  exact (Cert.ReferenceIdeal.Pool.E3_apply _ _ _ y (y 0) ⟨(y 1).val / 64, by omega⟩ ⟨(y 1).val % 64, by omega⟩ rfl rfl rfl).symm
end equal

end Cert.Equal
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem

/-- Over the extended reals, and with every scale at least zero and less than plus infinity, the kernel and the reference end with
    the same output array. -/
theorem algebraic : Cert.algebraic_KernelIdeal_ReferenceIdeal_pre_nonnegative_scales (hKernelIdeal := Cert.KernelIdeal.Gen.facts)
    (hReferenceIdeal := Cert.ReferenceIdeal.Gen.facts) (hPre_nonnegative_scales := Cert.Equal.pre_facts) := by
  intro m ρ m' ρ' hpre hargs
  refine ⟨fun c => (Cert.KernelIdeal.Gen.dats m 0 c).arrAt 3 Cert.KernelIdeal.cfg0.N, Cert.KernelIdeal.Value.run_blocks m ρ,
    (θ_run Cert.ReferenceIdeal.defs _ _).mono (fun r h c => ⟨(h c).1.trans ?_, (h c).2⟩) (Cert.ReferenceIdeal.Value.run_blocks m' ρ')⟩
  have hs := fun n => Cert.Equal.scale_of_pre _ _ _ (hpre c) n
  obtain ⟨h0, h1, h2⟩ := hargs c
  rw [Cert.ReferenceIdeal.Pool.final]
  refine Eq.trans ?_ (Cert.KernelIdeal.Tile.final m c).symm
  exact (congr (congr (congrArg Cert.ReferenceIdeal.Pool.out h0) h1) h2).trans
    (Cert.Equal.out_eq _ _ _ (fun n => (hs n).1) (fun n => (hs n).2)).symm

/-- Everything that the certificate claims. -/
theorem claim : Cert.Claim :=
  ⟨Cert.Kernel.Gen.facts, Cert.KernelIdeal.Gen.facts, Cert.ReferenceIdeal.Gen.facts, Cert.Equal.pre_facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
